-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_channels_valid [hPre_channels_valid : Cert.Pre_channels_valid.Facts] (m : (ℓ : Loc Cert.KernelIdeal.nD Cert.KernelIdeal.τ Cert.KernelIdeal.sig) → Buf (Elt Ideal) ℓ) : Prop :=
  ∀ c : Dev Cert.KernelIdeal.nD,
    (Cert.Pre_channels_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_channels_valid [hPre_channels_valid : Cert.Pre_channels_valid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_channels_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_channels_valid [hKernelIdeal : Cert.KernelIdeal.Facts] [hPre_channels_valid : Cert.Pre_channels_valid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_channels_valid m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_channels_valid [hReferenceIdeal : Cert.ReferenceIdeal.Facts] [hPre_channels_valid : Cert.Pre_channels_valid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_channels_valid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_channels_valid [hKernelIdeal : Cert.KernelIdeal.Facts] [hReferenceIdeal : Cert.ReferenceIdeal.Facts] [hPre_channels_valid : Cert.Pre_channels_valid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_channels_valid m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_channels_valid : Cert.Pre_channels_valid.Facts),
    quiescent_Kernel (hKernel := hKernel)
    ∧ quiescent_KernelIdeal (hKernelIdeal := hKernelIdeal)
    ∧ quiescent_KernelIdeal_pre_channels_valid (hKernelIdeal := hKernelIdeal) (hPre_channels_valid := hPre_channels_valid)
    ∧ quiescent_ReferenceIdeal (hReferenceIdeal := hReferenceIdeal)
    ∧ quiescent_ReferenceIdeal_pre_channels_valid (hReferenceIdeal := hReferenceIdeal) (hPre_channels_valid := hPre_channels_valid)
    ∧ preserves_Kernel_KernelIdeal
    ∧ algebraic_KernelIdeal_ReferenceIdeal_pre_channels_valid (hKernelIdeal := hKernelIdeal) (hReferenceIdeal := hReferenceIdeal) (hPre_channels_valid := hPre_channels_valid)
-- ==== Pre_channels_valid.lean ====
abbrev S8x128x128x128 : Shape := ⟨4, ![8, 128, 128, 128]⟩
abbrev S32x128x1x1 : Shape := ⟨4, ![32, 128, 1, 1]⟩
abbrev S128 : Shape := ⟨1, ![128]⟩
abbrev S_ : Shape := ⟨0, ![]⟩
abbrev S128x128 : Shape := ⟨2, ![128, 128]⟩

class Facts : Prop where
  bcast_S_S128 : S_.BroadcastsInDim S128 (![] : Fin 0 → Fin S128.rank)
  bcast_S128_S128x128_0 : S128.BroadcastsInDim S128x128 (![0] : Fin 1 → Fin S128x128.rank)
  bcast_S128_S128x128_1 : S128.BroadcastsInDim S128x128 (![1] : Fin 1 → Fin S128x128.rank)
  reducesTo_S128x128_S_d0_1 : S128x128.ReducesTo [0, 1] S_
  h_S_ : 0 < S_.numel
  bcast_S_S8x128x128x128 : S_.BroadcastsInDim S8x128x128x128 (![] : Fin 0 → Fin S8x128x128x128.rank)
  reducesTo_S8x128x128x128_S_d0_1_2_3 : S8x128x128x128.ReducesTo [0, 1, 2, 3] S_
  bcast_S_S32x128x1x1 : S_.BroadcastsInDim S32x128x1x1 (![] : Fin 0 → Fin S32x128x1x1.rank)
  reducesTo_S32x128x1x1_S_d0_1_2_3 : S32x128x1x1.ReducesTo [0, 1, 2, 3] S_

variable [Facts]

def fn_part1 {F : FTy → Type} [FloatOps F] (main_v4 : IVec S128 1) (main_v12 : IVec S_ 1) (main_v16 : IVec S_ 1) (main_v17 : FVec F S32x128x1x1 .f32) (main_cst_3 : FVec F S_ .f32) : IVec S128 1 :=
  let main_v18 : FVec F S32x128x1x1 .f32 := broadcastInDim S32x128x1x1 ![] bcast_S_S32x128x1x1 main_cst_3
  let main_v19 : IVec S32x128x1x1 1 := cmpf .olt main_v17 main_v18
  let main_c_4 : IVec S_ 1 := constantI S_ 1 1#1
  let main_v20 : IVec S_ 1 := (fun x v => Host.reduce IntOp.andi x v reducesTo_S32x128x1x1_S_d0_1_2_3 h_S_) main_v19 main_c_4
  let main_v21 : IVec S_ 1 := andi main_v16 main_v20
  let main_v22 : IVec S_ 1 := ori main_v12 main_v21
  let main_v23 : IVec S128 1 := broadcastInDim S128 ![] bcast_S_S128 main_v22
  let main_v24 : IVec S128 1 := andi main_v4 main_v23
  main_v24

def fn {F : FTy → Type} [FloatOps F] (main_arg0 : FVec F S8x128x128x128 .f32) (main_arg1 : FVec F S32x128x1x1 .f32) (main_arg2 : IVec S128 32) : IVec S128 1 :=
  let main_c : IVec S_ 32 := constantI S_ 32 0#32
  let main_v0 : IVec S128 32 := broadcastInDim S128 ![] bcast_S_S128 main_c
  let main_v1 : IVec S128 1 := cmpi .sge main_arg2 main_v0
  let main_c_0 : IVec S_ 32 := constantI S_ 32 128#32
  let main_v2 : IVec S128 32 := broadcastInDim S128 ![] bcast_S_S128 main_c_0
  let main_v3 : IVec S128 1 := cmpi .slt main_arg2 main_v2
  let main_v4 : IVec S128 1 := andi main_v1 main_v3
  let main_v5 : IVec S128x128 32 := iotaInDim S128x128 32 0
  let main_v6 : IVec S128x128 32 := iotaInDim S128x128 32 1
  let main_v7 : IVec S128x128 32 := broadcastInDim S128x128 ![0] bcast_S128_S128x128_0 main_arg2
  let main_v8 : IVec S128x128 32 := broadcastInDim S128x128 ![1] bcast_S128_S128x128_1 main_arg2
  let main_v9 : IVec S128x128 1 := cmpi .ne main_v7 main_v8
  let main_v10 : IVec S128x128 1 := cmpi .eq main_v5 main_v6
  let main_v11 : IVec S128x128 1 := ori main_v9 main_v10
  let main_c_1 : IVec S_ 1 := constantI S_ 1 1#1
  let main_v12 : IVec S_ 1 := (fun x v => Host.reduce IntOp.andi x v reducesTo_S128x128_S_d0_1 h_S_) main_v11 main_c_1
  let main_v13 : FVec F S8x128x128x128 .f32 := Host.absf main_arg0
  let main_cst : FVec F S_ .f32 := constant S_ .f32 0x7F800000#32
  let main_v14 : FVec F S8x128x128x128 .f32 := broadcastInDim S8x128x128x128 ![] bcast_S_S8x128x128x128 main_cst
  let main_v15 : IVec S8x128x128x128 1 := cmpf .olt main_v13 main_v14
  let main_c_2 : IVec S_ 1 := constantI S_ 1 1#1
  let main_v16 : IVec S_ 1 := (fun x v => Host.reduce IntOp.andi x v reducesTo_S8x128x128x128_S_d0_1_2_3 h_S_) main_v15 main_c_2
  let main_v17 : FVec F S32x128x1x1 .f32 := Host.absf main_arg1
  let main_cst_3 : FVec F S_ .f32 := constant S_ .f32 0x7F800000#32
  fn_part1 (F := F) main_v4 main_v12 main_v16 main_v17 main_cst_3
-- ==== Kernel.lean ====
abbrev S8x128x128x128 : Shape := ⟨4, ![8, 128, 128, 128]⟩
abbrev S32x128x1x1 : Shape := ⟨4, ![32, 128, 1, 1]⟩
abbrev S128 : Shape := ⟨1, ![128]⟩
abbrev S32x128 : Shape := ⟨2, ![32, 128]⟩
abbrev S1x128 : Shape := ⟨2, ![1, 128]⟩
abbrev S8x32x128x128 : Shape := ⟨4, ![8, 32, 128, 128]⟩
abbrev S1x128x128x128 : Shape := ⟨4, ![1, 128, 128, 128]⟩
abbrev S1x32x128x128 : Shape := ⟨4, ![1, 32, 128, 128]⟩
abbrev S64x256 : Shape := ⟨2, ![64, 256]⟩
abbrev S128x128 : Shape := ⟨2, ![128, 128]⟩
abbrev S128x1 : Shape := ⟨2, ![128, 1]⟩
abbrev S32x256 : Shape := ⟨2, ![32, 256]⟩
abbrev S128x128x128 : Shape := ⟨3, ![128, 128, 128]⟩
abbrev S16384x128 : Shape := ⟨2, ![16384, 128]⟩
abbrev S256x128 : Shape := ⟨2, ![256, 128]⟩
abbrev S64x128 : Shape := ⟨2, ![64, 128]⟩
abbrev S4096x128 : Shape := ⟨2, ![4096, 128]⟩
abbrev S128x32x128 : Shape := ⟨3, ![128, 32, 128]⟩
abbrev S32x128x128 : Shape := ⟨3, ![32, 128, 128]⟩

abbrev nBuf : Space → Nat
  | .hbm => 6
  | .vmem => 7
  | .smem => 0
  | _ => 0

abbrev bufTy : (tb : Table) → Fin (tcTables nBuf tb) → BufTy
  | .hbm, ⟨0, _⟩ => ⟨S8x128x128x128, .f32⟩
  | .hbm, ⟨1, _⟩ => ⟨S32x128x1x1, .f32⟩
  | .hbm, ⟨2, _⟩ => ⟨S128, .i32⟩
  | .hbm, ⟨3, _⟩ => ⟨S32x128, .f32⟩
  | .hbm, ⟨4, _⟩ => ⟨S1x128, .i32⟩
  | .hbm, ⟨5, _⟩ => ⟨S8x32x128x128, .f32⟩
  | .local _ .vmem, ⟨0, _⟩ => ⟨S1x128, .i32⟩
  | .local _ .vmem, ⟨1, _⟩ => ⟨S32x128, .f32⟩
  | .local _ .vmem, ⟨2, _⟩ => ⟨S1x128x128x128, .f32⟩
  | .local _ .vmem, ⟨3, _⟩ => ⟨S1x128x128x128, .f32⟩
  | .local _ .vmem, ⟨4, _⟩ => ⟨S1x32x128x128, .f32⟩
  | .local _ .vmem, ⟨5, _⟩ => ⟨S1x32x128x128, .f32⟩
  | .local _ .vmem, ⟨6, _⟩ => ⟨S64x256, .bf16⟩
  | _, _ => ⟨S8x128x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .vmem S1x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x128x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S8x128x128x128 : Shape := ⟨4, ![8, 128, 128, 128]⟩
abbrev S32x128x1x1 : Shape := ⟨4, ![32, 128, 1, 1]⟩
abbrev S128 : Shape := ⟨1, ![128]⟩
abbrev S_ : Shape := ⟨0, ![]⟩
abbrev S128x1 : Shape := ⟨2, ![128, 1]⟩
abbrev S1 : Shape := ⟨1, ![1]⟩
abbrev S1x1 : Shape := ⟨2, ![1, 1]⟩
abbrev S32x128 : Shape := ⟨2, ![32, 128]⟩
abbrev S8x128x128x32 : Shape := ⟨4, ![8, 128, 128, 32]⟩
abbrev S8x32x128x128 : Shape := ⟨4, ![8, 32, 128, 128]⟩

abbrev nBuf : Space → Nat
  | .hbm => 29
  | .vmem => 0
  | .smem => 0
  | _ => 0

abbrev bufTy : (tb : Table) → Fin (tcTables nBuf tb) → BufTy
  | .hbm, ⟨0, _⟩ => ⟨S8x128x128x128, .f32⟩
  | .hbm, ⟨1, _⟩ => ⟨S32x128x1x1, .f32⟩
  | .hbm, ⟨2, _⟩ => ⟨S128, .i32⟩
  | .hbm, ⟨3, _⟩ => ⟨S_, .i32⟩
  | .hbm, ⟨4, _⟩ => ⟨S128, .i32⟩
  | .hbm, ⟨5, _⟩ => ⟨S128, .i1⟩
  | .hbm, ⟨6, _⟩ => ⟨S_, .i32⟩
  | .hbm, ⟨7, _⟩ => ⟨S128, .i32⟩
  | .hbm, ⟨8, _⟩ => ⟨S128, .i32⟩
  | .hbm, ⟨9, _⟩ => ⟨S128, .i32⟩
  | .hbm, ⟨10, _⟩ => ⟨S128x1, .i32⟩
  | .hbm, ⟨11, _⟩ => ⟨S1, .i32⟩
  | .hbm, ⟨12, _⟩ => ⟨S_, .i32⟩
  | .hbm, ⟨13, _⟩ => ⟨S128x1, .i32⟩
  | .hbm, ⟨14, _⟩ => ⟨S128x1, .i1⟩
  | .hbm, ⟨15, _⟩ => ⟨S1x1, .i32⟩
  | .hbm, ⟨16, _⟩ => ⟨S128x1, .i32⟩
  | .hbm, ⟨17, _⟩ => ⟨S128x1, .i1⟩
  | .hbm, ⟨18, _⟩ => ⟨S128x1, .i1⟩
  | .hbm, ⟨19, _⟩ => ⟨S_, .i1⟩
  | .hbm, ⟨20, _⟩ => ⟨S128, .i1⟩
  | .hbm, ⟨21, _⟩ => ⟨S8x128x128x128, .f32⟩
  | .hbm, ⟨22, _⟩ => ⟨S8x128x128x128, .i1⟩
  | .hbm, ⟨23, _⟩ => ⟨S_, .f32⟩
  | .hbm, ⟨24, _⟩ => ⟨S8x128x128x128, .f32⟩
  | .hbm, ⟨25, _⟩ => ⟨S8x128x128x128, .f32⟩
  | .hbm, ⟨26, _⟩ => ⟨S32x128, .f32⟩
  | .hbm, ⟨27, _⟩ => ⟨S8x128x128x32, .f32⟩
  | .hbm, ⟨28, _⟩ => ⟨S8x32x128x128, .f32⟩
  | _, _ => ⟨S8x128x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩

abbrev nD : Nat := 1
abbrev τ : Topo := Topo.v7x

variable {F : FTy → Type} [FloatOps F]
-- ==== Proof.Point.lean ====
/-
  What one grid point of the kernel leaves behind: its block of the result, and the weight matrix it keeps for
  the points after it.
-/
module

public import proofs.«01_k».proof.Proof.Gen.KernelIdeal.Frame
public import Idealize.ShloMosaic.Lib.Pipeline.Value

@[expose] public section

set_option maxRecDepth 16384

noncomputable section

namespace Cert.KernelIdeal.Point

open Cert.KernelIdeal Cert.KernelIdeal.Gen Idealize.ShloMosaic Idealize.ShloMosaic.TcCoe Idealize.ShloMosaic.Tactic Idealize.SL.Sem

variable {F : FTy → Type} [FloatOps F]

theorem zero2 : (![0, 0] : Fin 2 → Nat) = fun _ => 0 := funext fun a => by fin_cases a <;> rfl

theorem zero4 : (![0, 0, 0, 0] : Fin 4 → Nat) = fun _ => 0 := funext fun a => by fin_cases a <;> rfl

/-- Rows `256 n` to `256 n + 255` lie inside the 16384 rows of the rearranged input block. -/
theorem slices_rows (n : Fin 64) : S16384x128.Slices ![256 * n.val, 0] S256x128 := by
  revert n; decide +kernel

/-- The `n`-th product: the kept weights times rows `256 n` to `256 n + 255` of the rearranged input block. -/
def product (W : Vec F S64x256 .bf16) (X : Vec F S1x128x128x128 .f32) (n : Fin 64) : FVec F S64x128 .f32 :=
  matmul dot_S64x256_S256x128_S64x128_1_0_0_1_n_n none W
    (extractStridedSlice S256x128 ![256 * n.val, 0] (k0_pay13 X) (slices_rows n)) (constant S64x128 .f32 0x00000000#32)

/-- 64 pieces of 64 rows, one below the other, make the 4096 rows of the stacked products. -/
theorem stacking (f : Fin 64 → (S64x128.Idx → F .f32)) :
    Shape.Concatenates ((List.ofFn fun n => (⟨S64x128, f n⟩ : (s : Shape) × (s.Idx → F .f32))).map (·.1)) S4096x128 0 :=
  concatenates_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S4096x128_d0

/-- The block of the result a point stores: the 64 products stacked, with the row split into image row and filter. -/
def block (W : Vec F S64x256 .bf16) (X : Vec F S1x128x128x128 .f32) : FVec F S1x32x128x128 .f32 :=
  k0_pay11 (concatenate S4096x128 0 (List.ofFn fun n => ⟨S64x128, product W X n⟩) (stacking (product W X)))

/-- Reading a whole buffer of two axes from its first element on gives back what it holds. -/
theorem read2 {n0 n1 : ℕ} {e : EltTy} (a : Memref sig .tc .vmem ⟨2, ![n0, n1]⟩ e) (h : a.IsWhole) (x : Vec F ⟨2, ![n0, n1]⟩ e)
    (inb : ∀ k : Fin 2, (![0, 0] : Fin 2 → ℕ) k + (⟨2, ![n0, n1]⟩ : Shape).size k ≤ (⟨2, ![n0, n1]⟩ : Shape).size k) :
    View.readAt (Elt F) a.view (Rect.unit (s := ⟨2, ![n0, n1]⟩) ![0, 0] (⟨2, ![n0, n1]⟩ : Shape).size inb).toLoadRect (h.unread x) = x := by
  rw [View.readAt_eq_ld, h.read_unread, View.ld_unit_zero (S := ⟨2, ![n0, n1]⟩) zero2]

/-- Reading a whole buffer of four axes from its first element on gives back what it holds. -/
theorem read4 {n0 n1 n2 n3 : ℕ} {e : EltTy} (a : Memref sig .tc .vmem ⟨4, ![n0, n1, n2, n3]⟩ e) (h : a.IsWhole)
    (x : Vec F ⟨4, ![n0, n1, n2, n3]⟩ e)
    (inb : ∀ k : Fin 4, (![0, 0, 0, 0] : Fin 4 → ℕ) k + (⟨4, ![n0, n1, n2, n3]⟩ : Shape).size k ≤ (⟨4, ![n0, n1, n2, n3]⟩ : Shape).size k) :
    View.readAt (Elt F) a.view (Rect.unit (s := ⟨4, ![n0, n1, n2, n3]⟩) ![0, 0, 0, 0] (⟨4, ![n0, n1, n2, n3]⟩ : Shape).size inb).toLoadRect
      (h.unread x) = x := by
  rw [View.readAt_eq_ld, h.read_unread, View.ld_unit_zero (S := ⟨4, ![n0, n1, n2, n3]⟩) zero4]

variable (c : Dev nD) (i : grid0.Coords) (arg1 : Memref sig .tc .vmem S1x128 .i32) (harg1 : arg1.IsWhole)
  (arg2 : Memref sig .tc .vmem S32x128 .f32) (harg2 : arg2.IsWhole)
  (arg3 : Memref sig .tc .vmem S1x128x128x128 .f32) (harg3 : arg3.IsWhole)
  (arg4 : Memref sig .tc .vmem S1x32x128x128 .f32) (harg4 : arg4.IsWhole)
  (arg5 : Memref sig .tc .vmem S64x256 .bf16) (harg5 : arg5.IsWhole)
  (x0 : Vec F S1x128 .i32) (x1 : Vec F S32x128 .f32) (x2 : Vec F S1x128x128x128 .f32)

/-- A later point stores the block made from the weights the point before left. -/
theorem out_B (hc0 : ¬cond0_0 i) (xs0 : Vec F S64x256 .bf16) :
    out0_B_3 c i arg1 harg1 arg2 harg2 arg3 harg3 arg4 harg4 arg5 harg5 hc0 x0 x1 x2 xs0 = block xs0 x2 := by
  unfold out0_B_3
  rw [View.read_writes_eq_canon _ _ _ (cover0_B_3 c i arg1 harg1 arg2 harg2 arg3 harg3 arg4 harg4 arg5 harg5 hc0 x0 x1 x2 xs0)]
  unfold kernelRun0_B
  dsimp only
  sl_unfold_words
  rw [View.canon_cons_unit_zero (S := S1x32x128x128) zero4]
  rw [read2 arg5 harg5 xs0, read4 arg3 harg3 x2]
  rfl

/-- The first point keeps the weights it builds from the channel indices and the weight array. -/
theorem scratch_A (hc0 : cond0_0 i) :
    sout0_A_0 c i arg1 harg1 arg2 harg2 arg3 harg3 arg4 harg4 arg5 harg5 hc0 x0 x1 x2 = k0_pay12 x0 x1 := by
  unfold sout0_A_0
  rw [View.read_writes_eq_canon _ _ _ (scover0_A_0 c i arg1 harg1 arg2 harg2 arg3 harg3 arg4 harg4 arg5 harg5 hc0 x0 x1 x2)]
  unfold kernelRun0_A
  dsimp only
  sl_unfold_words
  rw [View.canon_cons_unit_zero (S := S64x256) zero2]
  rw [read2 arg1 harg1 x0, read2 arg2 harg2 x1]

/-- The first point stores the block made from the weights it has just built. -/
theorem out_A (hc0 : cond0_0 i) :
    out0_A_3 c i arg1 harg1 arg2 harg2 arg3 harg3 arg4 harg4 arg5 harg5 hc0 x0 x1 x2 = block (k0_pay12 x0 x1) x2 := by
  unfold out0_A_3
  rw [View.read_writes_eq_canon _ _ _ (cover0_A_3 c i arg1 harg1 arg2 harg2 arg3 harg3 arg4 harg4 arg5 harg5 hc0 x0 x1 x2)]
  unfold kernelRun0_A
  dsimp only
  sl_unfold_words
  rw [View.canon_cons_unit_zero (S := S1x32x128x128) zero4]
  rw [View.readCov_unit_zero (S := S64x256) _ zero2]
  rw [read2 arg1 harg1 x0, read2 arg2 harg2 x1, read4 arg3 harg3 x2]
  rfl

end Cert.KernelIdeal.Point

end
-- ==== Proof.Weights.lean ====
/-
  The weight matrix the first grid point builds, read at an index: two copies of the weights by channel on the
  diagonal, zeros beside them.
-/
module

public import proofs.«01_k».proof.Proof.Gen.KernelIdeal.Skeleton
public import Idealize.ShloMosaic.Lib.Pipeline.Value
public import Idealize.ShloMosaic.Lib.ValueIdx
public import Idealize.ShloMosaic.Lib.ValueLayout
public import Idealize.ShloMosaic.Lib.ValueLayoutCasts
public import Idealize.ShloMosaic.Lib.MatmulPlain
public import Idealize.ShloMosaic.Lib.IdealHost

@[expose] public section

set_option maxRecDepth 16384

noncomputable section

namespace Cert.KernelIdeal.Weights

open Cert.KernelIdeal Cert.KernelIdeal.Gen Idealize.ShloMosaic Idealize.ShloMosaic.TcCoe Idealize.ShloMosaic.ValueIdx
open scoped BigOperators

/-- 1 where entry `k` of the channel indices names channel `c`, 0 elsewhere. -/
def hit (idx : Vec Ideal S1x128 .i32) (k c : Fin 128) : EReal :=
  if idx (ix2 (0 : Fin 1) k) = BitVec.ofNat 32 c.val then 1 else 0

/-- The weight filter `f` gives channel `c`: the sum of its weights at the positions that name channel `c`. -/
def byChannel (idx : Vec Ideal S1x128 .i32) (w : Vec Ideal S32x128 .f32) (f : Fin 32) (c : Fin 128) : EReal :=
  ∑ k : Fin 128, w (ix2 f k) * hit idx k c

/-- The channel indices compared with every channel, as an array of zeros and ones. -/
def onehot (idx : Vec Ideal S1x128 .i32) : FVec Ideal S128x128 .f32 :=
  sitofp .f32 (extui 32 (cmpi .eq
    (broadcastTo S128x128 (shapeCast S128x1 (shapeCast S128 idx shapeCasts_S1x128_S128) shapeCasts_S128_S128x1) broadcasts_S128x1_S128x128)
    (iota .tc S128x128 32 [1] iota_S128x128_d1_w32)) natLt_1_32)

/-- The array of zeros and ones at `(k, c)`. -/
theorem onehot_apply (idx : Vec Ideal S1x128 .i32) (k c : Fin 128) : onehot idx (ix2 k c) = hit idx k c := by
  have hb : broadcastTo S128x128 (shapeCast S128x1 (shapeCast S128 idx shapeCasts_S1x128_S128) shapeCasts_S128_S128x1)
      broadcasts_S128x1_S128x128 (ix2 k c) = idx (ix2 (0 : Fin 1) k) :=
    (broadcastTo_apply _ _ _ (ix2 k (0 : Fin 1)) fun a => by
      match a with
      | ⟨0, _⟩ => rfl
      | ⟨1, _⟩ => rfl).trans
      ((shapeCast_a_a1_apply _ shapeCasts_S128_S128x1 k 0).trans (shapeCast_1a_a_apply idx shapeCasts_S1x128_S128 k))
  unfold onehot hit
  rw [sitofp_apply, extui_apply]
  show FloatOps.sitofp .f32 ((IntOp.cmpi .eq (broadcastTo S128x128 _ _ (ix2 k c)) (iota .tc S128x128 32 [1] iota_S128x128_d1_w32 (ix2 k c))).setWidth 32) = _
  rw [hb, iota_single_apply]
  show ((((((IntOp.cmpi .eq (idx (ix2 (0 : Fin 1) k)) (BitVec.ofNat 32 c.val)).setWidth 32).toInt : ℤ) : ℝ)) : EReal) = _
  by_cases h : idx (ix2 (0 : Fin 1) k) = BitVec.ofNat 32 c.val
  · rw [if_pos h, h]; simp [IntOp.cmpi]
  · rw [if_neg h]; simp [IntOp.cmpi, beq_eq_false_iff_ne.mpr h]

/-- The weights times that array. -/
def gathered (idx : Vec Ideal S1x128 .i32) (w : Vec Ideal S32x128 .f32) : FVec Ideal S32x128 .f32 :=
  matmul (φ₁ := .f32) (φ₂ := .f32) dot_S32x128_S128x128_S32x128_1_0_0_1_n_n none w (onehot idx) (constant S32x128 .f32 0x00000000#32)

/-- The product at `(f, c)` is the weight of channel `c` in filter `f`. -/
theorem gathered_apply (idx : Vec Ideal S1x128 .i32) (w : Vec Ideal S32x128 .f32) (f : Fin 32) (c : Fin 128) :
    gathered idx w (ix2 f c) = byChannel idx w f c := by
  refine (Ideal.matmul_plain_apply (φ₁ := .f32) (φ₂ := .f32) none w (onehot idx) (constant S32x128 .f32 0x00000000#32) f c).trans ?_
  rw [constant_apply, Ideal.ofBits_zero_f32, zero_add]
  exact Finset.sum_congr rfl fun k _ => by rw [onehot_apply]

/-- Two copies of a matrix on the diagonal, zeros beside them. -/
def diagonal (A : FVec Ideal S32x128 .bf16) : FVec Ideal S64x256 .bf16 :=
  concatenate S64x256 0
    [⟨S32x256, concatenate S32x256 1 [⟨S32x128, A⟩, ⟨S32x128, broadcast S32x128 (Scalar.ofBits .bf16 0x0000#16)⟩]
        concatenates_S32x128_S32x128_S32x256_d1⟩,
      ⟨S32x256, concatenate S32x256 1 [⟨S32x128, broadcast S32x128 (Scalar.ofBits .bf16 0x0000#16)⟩, ⟨S32x128, A⟩]
        concatenates_S32x128_S32x128_S32x256_d1⟩]
    concatenates_S32x256_S32x256_S64x256_d0

/-- What the first point builds is the weights by channel, twice on the diagonal. -/
theorem kept_eq (idx : Vec Ideal S1x128 .i32) (w : Vec Ideal S32x128 .f32) :
    k0_pay12 idx w = diagonal (truncf .bf16 (gathered idx w) bitsLt_bf16_f32) := by
  unfold k0_pay12 gathered onehot diagonal
  dsimp only
  rw [shapeCast_self, shapeCast_self]

/-- A row of two matrices side by side, in the left one. -/
theorem beside_left (A B : FVec Ideal S32x128 .bf16) (f : Fin 32) (c : Fin 128) (q : Fin 256) (hq : q.val = c.val) :
    concatenate S32x256 1 [⟨S32x128, A⟩, ⟨S32x128, B⟩] concatenates_S32x128_S32x128_S32x256_d1 (ix2 f q) = A (ix2 f c) :=
  concatenate_pair_apply_left (t := S32x256) 1 A B _ (ix2 f q) rfl (ix2 f c) fun b => by
    match b with
    | ⟨0, _⟩ => rfl
    | ⟨1, _⟩ => exact hq.symm

/-- A row of two matrices side by side, in the right one. -/
theorem beside_right (A B : FVec Ideal S32x128 .bf16) (f : Fin 32) (c : Fin 128) (q : Fin 256) (hq : q.val = c.val + 128) :
    concatenate S32x256 1 [⟨S32x128, A⟩, ⟨S32x128, B⟩] concatenates_S32x128_S32x128_S32x256_d1 (ix2 f q) = B (ix2 f c) :=
  concatenate_pair_apply_right (t := S32x256) 1 A B _ (ix2 f q) rfl rfl (ix2 f c)
    (fun b hb => by
      match b with
      | ⟨0, _⟩ => rfl
      | ⟨1, _⟩ => exact absurd rfl hb)
    hq.symm

/-- The upper half of two matrices one below the other. -/
theorem below_left (A B : FVec Ideal S32x256 .bf16) (f : Fin 32) (q : Fin 256) (p : Fin 64) (hp : p.val = f.val) :
    concatenate S64x256 0 [⟨S32x256, A⟩, ⟨S32x256, B⟩] concatenates_S32x256_S32x256_S64x256_d0 (ix2 p q) = A (ix2 f q) :=
  concatenate_pair_apply_left (t := S64x256) 0 A B _ (ix2 p q) rfl (ix2 f q) fun b => by
    match b with
    | ⟨0, _⟩ => exact hp.symm
    | ⟨1, _⟩ => rfl

/-- The lower half of two matrices one below the other. -/
theorem below_right (A B : FVec Ideal S32x256 .bf16) (f : Fin 32) (q : Fin 256) (p : Fin 64) (hp : p.val = f.val + 32) :
    concatenate S64x256 0 [⟨S32x256, A⟩, ⟨S32x256, B⟩] concatenates_S32x256_S32x256_S64x256_d0 (ix2 p q) = B (ix2 f q) :=
  concatenate_pair_apply_right (t := S64x256) 0 A B _ (ix2 p q) rfl rfl (ix2 f q)
    (fun b hb => by
      match b with
      | ⟨0, _⟩ => exact absurd rfl hb
      | ⟨1, _⟩ => rfl)
    hp.symm

/-- The zero matrix is zero everywhere. -/
theorem zeros_apply (j : S32x128.Idx) : broadcast S32x128 (Scalar.ofBits (F := Ideal) .bf16 0x0000#16) j = (0 : EReal) :=
  Ideal.ofBits_zero_bf16

/-- The diagonal matrix at row `32 a + f` and column `128 b + c`: the copied matrix at `(f, c)` when `a = b`, else 0. -/
theorem diagonal_apply (A : FVec Ideal S32x128 .bf16) (a b : Fin 2) (f : Fin 32) (c : Fin 128) (p : Fin 64) (q : Fin 256)
    (hp : p.val = 32 * a.val + f.val) (hq : q.val = 128 * b.val + c.val) :
    diagonal A (ix2 p q) = if a = b then A (ix2 f c) else (0 : EReal) := by
  unfold diagonal
  match a, b, hp, hq with
  | ⟨0, _⟩, ⟨0, _⟩, hp, hq =>
    rw [below_left _ _ f q p (by simpa using hp), beside_left _ _ f c q (by simpa using hq), if_pos rfl]
  | ⟨0, _⟩, ⟨1, _⟩, hp, hq =>
    rw [below_left _ _ f q p (by simpa using hp), beside_right _ _ f c q (by simp only at hq; omega), if_neg (by simp), zeros_apply]
  | ⟨1, _⟩, ⟨0, _⟩, hp, hq =>
    rw [below_right _ _ f q p (by simp only at hp; omega), beside_left _ _ f c q (by simpa using hq), if_neg (by simp), zeros_apply]
  | ⟨1, _⟩, ⟨1, _⟩, hp, hq =>
    rw [below_right _ _ f q p (by simp only at hp; omega), beside_right _ _ f c q (by simp only at hq; omega), if_pos rfl]

/-- The kept weight matrix at row `32 a + f` and column `128 b + c`: the weight of channel `c` in filter `f` when
    `a = b`, else 0. -/
theorem kept_apply (idx : Vec Ideal S1x128 .i32) (w : Vec Ideal S32x128 .f32) (a b : Fin 2) (f : Fin 32) (c : Fin 128)
    (p : Fin 64) (q : Fin 256) (hp : p.val = 32 * a.val + f.val) (hq : q.val = 128 * b.val + c.val) :
    k0_pay12 idx w (ix2 p q) = if a = b then byChannel idx w f c else (0 : EReal) := by
  rw [kept_eq, diagonal_apply _ a b f c p q hp hq]
  exact congrArg (fun z : EReal => if a = b then z else 0) (gathered_apply idx w f c)

end Cert.KernelIdeal.Weights

end
-- ==== Proof.Block.lean ====
/-
  The block of the result one grid point stores, read at an index: the weighted sum over the channels.
-/
module

public import proofs.«01_k».proof.Proof.Point
public import proofs.«01_k».proof.Proof.Weights

@[expose] public section

set_option maxRecDepth 16384

noncomputable section

namespace Cert.KernelIdeal.Block

open Cert.KernelIdeal Cert.KernelIdeal.Gen Cert.KernelIdeal.Point Idealize.ShloMosaic Idealize.ShloMosaic.TcCoe Idealize.ShloMosaic.ValueIdx
open scoped BigOperators

/-- A three-axis array with its first two axes exchanged. -/
theorem swapped_apply {α : Type} {n m k : ℕ} (x : (⟨3, ![n, m, k]⟩ : Shape).Idx → α)
    (h : (⟨3, ![n, m, k]⟩ : Shape).Transposes [1, 0, 2] ⟨3, ![m, n, k]⟩) (i : Fin m) (j : Fin n) (l : Fin k) :
    transpose ⟨3, ![m, n, k]⟩ [1, 0, 2] x h (ix3 i j l) = x (ix3 j i l) :=
  transpose_apply _ x h _ _ fun b => match b with | ⟨0, _⟩ => rfl | ⟨1, _⟩ => rfl | ⟨2, _⟩ => rfl

/-- Row `128 h + c` of the rearranged input block is channel `c` of image row `h`. -/
theorem rows_apply (X : Vec Ideal S1x128x128x128 .f32) (h c w : Fin 128) (r : Fin 16384) (hr : r.val = 128 * h.val + c.val) :
    k0_pay13 X (ix2 r w) = X (ix4 (0 : Fin 1) c h w) := by
  unfold k0_pay13
  dsimp only
  refine (shapeCast_apply _ _ (ix2 r w) (ix3 h c w) ?_).trans ((swapped_apply _ _ h c w).trans ?_)
  · rw [Shape.rowMajor_val_three, Shape.rowMajor_val_two]
    show (h.val * 128 + c.val) * 128 + w.val = r.val * 128 + w.val
    rw [hr, Nat.mul_comm h.val]
  · exact shapeCast_1abc_abc_apply X _ c h w

/-- The stacked products, stored: filter `f` of image row `h` is row `32 h + f` of the stack. -/
theorem stored_apply (v : FVec Ideal S4096x128 .f32) (f : Fin 32) (h w : Fin 128) (r : Fin 4096) (hr : r.val = 32 * h.val + f.val) :
    k0_pay11 v (ix4 (0 : Fin 1) f h w) = v (ix2 r w) := by
  unfold k0_pay11
  dsimp only
  refine (shapeCast_abc_1abc_apply _ _ (0 : Fin 1) f h w).trans ((swapped_apply _ _ f h w).trans ?_)
  refine shapeCast_apply _ _ (ix3 h f w) (ix2 r w) ?_
  rw [Shape.rowMajor_val_three, Shape.rowMajor_val_two]
  show r.val * 128 + w.val = (h.val * 32 + f.val) * 128 + w.val
  rw [hr, Nat.mul_comm h.val]

/-- A sum over 256 columns, as two sums over 128. -/
theorem sum_halves (g : Fin 256 → EReal) :
    ∑ q : Fin 256, g q = ∑ b : Fin 2, ∑ c : Fin 128, g ⟨128 * b.val + c.val, by omega⟩ := by
  rw [← Fintype.sum_prod_type' (f := fun (b : Fin 2) (c : Fin 128) => g ⟨128 * b.val + c.val, by omega⟩)]
  refine (Fintype.sum_equiv (finProdFinEquiv (m := 2) (n := 128)) _ _ fun p => ?_).symm
  refine congrArg g (Fin.ext ?_)
  show 128 * p.1.val + p.2.val = p.2.val + 128 * p.1.val
  omega

/-- A product of the kept weights with 256 rows, at an index. -/
theorem times_apply (W : FVec Ideal S64x256 .bf16) (Y : FVec Ideal S256x128 .bf16) (p : Fin 64) (w : Fin 128) :
    matmul dot_S64x256_S256x128_S64x128_1_0_0_1_n_n none W Y (constant S64x128 .f32 0x00000000#32) (ix2 p w)
      = ∑ q : Fin 256, W (ix2 p q) * Y (ix2 q w) := by
  refine (Ideal.matmul_plain_apply (φ₁ := .bf16) (φ₂ := .bf16) none W Y (constant S64x128 .f32 0x00000000#32) p w).trans ?_
  rw [constant_apply, Ideal.ofBits_zero_f32, zero_add]

/-- The `n`-th product at row `32 a + f`: the sum over the channels at image row `2 n + a`, for kept weights that are
    twice `A` on the diagonal and zero beside it. -/
theorem product_apply (W : Vec Ideal S64x256 .bf16) (A : Fin 32 → Fin 128 → EReal)
    (hW : ∀ (a b : Fin 2) (f : Fin 32) (c : Fin 128) (p : Fin 64) (q : Fin 256), p.val = 32 * a.val + f.val →
      q.val = 128 * b.val + c.val → W (ix2 p q) = if a = b then A f c else (0 : EReal))
    (X : Vec Ideal S1x128x128x128 .f32) (n : Fin 64) (a : Fin 2) (f : Fin 32) (h w : Fin 128) (p : Fin 64)
    (hp : p.val = 32 * a.val + f.val) (hh : h.val = 2 * n.val + a.val) :
    product W X n (ix2 p w) = ∑ c : Fin 128, A f c * X (ix4 (0 : Fin 1) c h w) := by
  unfold product
  rw [times_apply, sum_halves]
  have key : ∀ (b : Fin 2) (c : Fin 128),
      (W (ix2 p ⟨128 * b.val + c.val, by omega⟩) : EReal)
        * extractStridedSlice S256x128 ![256 * n.val, 0] (k0_pay13 X) (slices_rows n) (ix2 ⟨128 * b.val + c.val, by omega⟩ w)
      = if a = b then A f c * X (ix4 (0 : Fin 1) c h w) else (0 : EReal) := by
    intro b c
    rw [hW a b f c p _ hp rfl]
    by_cases hab : a = b
    · subst hab
      rw [if_pos rfl, if_pos rfl]
      refine congrArg (A f c * ·) ?_
      refine (slice2_axis0_apply (256 * n.val) (k0_pay13 X) (slices_rows n) _ w
        ⟨256 * n.val + (128 * a.val + c.val), by omega⟩ rfl).trans (rows_apply X h c w _ ?_)
      show 256 * n.val + (128 * a.val + c.val) = 128 * h.val + c.val
      omega
    · rw [if_neg hab, if_neg hab, zero_mul]
  refine (Finset.sum_congr rfl fun b _ => Finset.sum_congr rfl fun c _ => key b c).trans ?_
  rw [Finset.sum_eq_single a]
  · exact Finset.sum_congr rfl fun c _ => if_pos rfl
  · exact fun b _ hb => Finset.sum_eq_zero fun c _ => if_neg (Ne.symm hb)
  · exact fun ha => absurd (Finset.mem_univ a) ha

/-- The stored block at filter `f`, image row `h` and column `w`: the sum over the channels of weight times input. -/
theorem block_apply (idx : Vec Ideal S1x128 .i32) (w : Vec Ideal S32x128 .f32) (X : Vec Ideal S1x128x128x128 .f32)
    (f : Fin 32) (h v : Fin 128) :
    block (k0_pay12 idx w) X (ix4 (0 : Fin 1) f h v)
      = ∑ c : Fin 128, Weights.byChannel idx w f c * X (ix4 (0 : Fin 1) c h v) := by
  unfold block
  rw [stored_apply _ f h v ⟨32 * h.val + f.val, by omega⟩ rfl]
  refine (concatenate_ofFn_apply (t := S4096x128) (s₁ := S64x128) 0 (product (k0_pay12 idx w) X) _ rfl 64 rfl _
    ⟨h.val / 2, by omega⟩ ?_ (ix2 ⟨32 * (h.val % 2) + f.val, by omega⟩ v) ?_ ?_).trans ?_
  · show (32 * h.val + f.val) / 64 = h.val / 2
    omega
  · show 32 * (h.val % 2) + f.val = (32 * h.val + f.val) % 64
    omega
  · intro b hb
    match b with
    | ⟨0, _⟩ => exact absurd rfl hb
    | ⟨1, _⟩ => rfl
  · exact product_apply _ (Weights.byChannel idx w) (Weights.kept_apply idx w) X _ ⟨h.val % 2, by omega⟩ f h v _ rfl
      (by show h.val = 2 * (h.val / 2) + h.val % 2; omega)

end Cert.KernelIdeal.Block

end
-- ==== Proof.Array.lean ====
/-
  What the kernel's result array holds at the end of a run, index by index.
-/
module

public import proofs.«01_k».proof.Proof.Gen.KernelIdeal.Value
public import proofs.«01_k».proof.Proof.Block
public import Idealize.ShloMosaic.Lib.Claim

@[expose] public section

set_option maxRecDepth 16384

noncomputable section

namespace Cert.KernelIdeal.Array

open Cert.KernelIdeal Cert.KernelIdeal.Gen Cert.KernelIdeal.Point Idealize.ShloMosaic Idealize.ShloMosaic.TcCoe Idealize.ShloMosaic.ValueIdx
open scoped BigOperators

variable (m : (ℓ : Loc nD τ sig) → Buf (Elt Ideal) ℓ) (c : Dev nD)

/-- The channel indices as one row. -/
def indices : Vec Ideal S1x128 .i32 := shapeCast S1x128 (m ((c : Thread nD τ).loc main_arg2)) shapeCasts_S128_S1x128

/-- The weights as a matrix of filters by positions. -/
def weights : Vec Ideal S32x128 .f32 := shapeCast S32x128 (m ((c : Thread nD τ).loc main_arg1)) shapeCasts_S32x128x1x1_S32x128

/-- Every point reads the whole row of channel indices. -/
theorem read_indices (t : Fin cfg0.N) : iblk m c 0 t = indices m c := by
  unfold iblk indices
  rw [show V m c (Pipeline.arrRef spec0 0) = shapeCast S1x128 (m ((c : Thread nD τ).loc main_arg2)) shapeCasts_S128_S1x128 from by
    show V m c main_v1 = _
    entry_read
    rfl]
  have hz : (fun a => win0_0.index t a * main_v1.ty.shape.size a) = fun _ => 0 := funext fun a => by
    match a with
    | ⟨0, _⟩ => exact Nat.zero_mul _
    | ⟨1, _⟩ => exact Nat.zero_mul _
  exact Memref.read_access_unit_zero (Elt Ideal) main_v1 hz (fun a => by rw [congrFun hz a]; simp) _

/-- Every point reads the whole matrix of weights. -/
theorem read_weights (t : Fin cfg0.N) : iblk m c 1 t = weights m c := by
  unfold iblk weights
  rw [show V m c (Pipeline.arrRef spec0 1) = shapeCast S32x128 (m ((c : Thread nD τ).loc main_arg1)) shapeCasts_S32x128x1x1_S32x128 from by
    show V m c main_v0 = _
    entry_read
    rfl]
  have hz : (fun a => win0_1.index t a * main_v0.ty.shape.size a) = fun _ => 0 := funext fun a => by
    match a with
    | ⟨0, _⟩ => exact Nat.zero_mul _
    | ⟨1, _⟩ => exact Nat.zero_mul _
  exact Memref.read_access_unit_zero (Elt Ideal) main_v0 hz (fun a => by rw [congrFun hz a]; simp) _

/-- The input window's block at a point is that point's batch element. -/
theorem input_index : ∀ t : Fin cfg0.N, win0_2.index t (0 : Fin 4) = t.val ∧ win0_2.index t (1 : Fin 4) = 0
    ∧ win0_2.index t (2 : Fin 4) = 0 ∧ win0_2.index t (3 : Fin 4) = 0 :=
  (by decide +kernel : ∀ t : Fin grid0.N, _)

/-- Point `b` reads batch element `b` of the input. -/
theorem read_input (t : Fin cfg0.N) (b : Fin 8) (hb : t.val = b.val) (k h w : Fin 128) :
    iblk m c 2 t (ix4 (0 : Fin 1) k h w) = m ((c : Thread nD τ).loc main_arg0) (ix4 b k h w) := by
  obtain ⟨e0, e1, e2, e3⟩ := input_index t
  unfold iblk
  show V m c main_arg0 (((cfg0.win 2).blk t).view.emb (ix4 (0 : Fin 1) k h w)) = _
  rw [V_main_arg0]
  refine congrArg _ (funext fun a => Fin.ext ?_)
  match a with
  | ⟨0, _⟩ => show win0_2.index t (0 : Fin 4) * 1 + 1 * 0 = b.val; omega
  | ⟨1, _⟩ => show win0_2.index t (1 : Fin 4) * 128 + 1 * k.val = k.val; omega
  | ⟨2, _⟩ => show win0_2.index t (2 : Fin 4) * 128 + 1 * h.val = h.val; omega
  | ⟨3, _⟩ => show win0_2.index t (3 : Fin 4) * 128 + 1 * w.val = w.val; omega

/-- After every point the kept weights are those built from the channel indices and the weights. -/
theorem kept (n : ℕ) (hn : n < cfg0.N) : (outsAt0 m c n hn).2 = k0_pay12 (indices m c) (weights m c) := by
  have hN : cfg0.N = 8 := N_0
  induction n with
  | zero =>
    rw [outsAt0_A m c ⟨0, hn⟩ rfl]
    dsimp only
    rw [scratch_A, read_indices, read_weights]
  | succ n ih =>
    have hB : ¬(⟨n + 1, hn⟩ : Fin cfg0.N).val % 8 = 0 := by dsimp only; omega
    rw [outsAt0_B m c ⟨n + 1, hn⟩ hB]
    dsimp only
    unfold sout0_B_0
    exact ih (Nat.lt_of_succ_lt hn)

/-- Every point stores the block made from those weights and its batch element. -/
theorem stored (t : Fin cfg0.N) : (outsAt0 m c t.val t.isLt).1 = block (k0_pay12 (indices m c) (weights m c)) (iblk m c 2 t) := by
  by_cases h0 : t.val % 8 = 0
  · rw [outsAt0_A m c t h0]
    dsimp only
    rw [out_A, read_indices, read_weights]
  · rw [outsAt0_B m c t h0]
    dsimp only
    rw [out_B, kept]

/-- The result array at batch element `b`, filter `f`, image row `h` and column `w`: the sum over the channels of the
    channel's weight times the input. -/
theorem result_apply (b : Fin 8) (f : Fin 32) (h w : Fin 128) :
    Value.G3 m c (ix4 b f h w)
      = (∑ k : Fin 128, Weights.byChannel (indices m c) (weights m c) f k * m ((c : Thread nD τ).loc main_arg0) (ix4 b k h w) : EReal) := by
  have hN : cfg0.N = 8 := N_0
  have hp : Value.pt3Of (ix4 b f h w) = b.val := by
    show 1 * (b.val / 1 - 0) + 1 * (f.val / 32 - 0) + 1 * (h.val / 128 - 0) + 1 * (w.val / 128 - 0) = b.val
    omega
  have hl : Value.loc3Of (ix4 b f h w) = ix4 (0 : Fin 1) f h w := by
    funext a
    apply Fin.ext
    match a with
    | ⟨0, _⟩ => exact Nat.mod_one _
    | ⟨1, _⟩ => exact Nat.mod_eq_of_lt f.isLt
    | ⟨2, _⟩ => exact Nat.mod_eq_of_lt h.isLt
    | ⟨3, _⟩ => exact Nat.mod_eq_of_lt w.isLt
  have ht : Value.pt3Of (ix4 b f h w) < cfg0.N := by rw [hp, hN]; exact b.isLt
  unfold Value.G3
  rw [dif_pos ht, ← Value.outsAt0_sweep m c _ ht, stored m c ⟨_, ht⟩, hl, Block.block_apply]
  exact Finset.sum_congr (M := EReal) rfl fun k _ => by rw [read_input m c ⟨_, ht⟩ b hp k h w]

end Cert.KernelIdeal.Array

end
-- ==== Proof.Reference.lean ====
/-
  What the reference computes, index by index, when every entry of the channel indices names a channel.
-/
module

public import proofs.«01_k».proof.Proof.Gen.ReferenceIdeal.Run
public import Idealize.ShloMosaic.Lib.Pipeline.Value
public import Idealize.ShloMosaic.Lib.ValueIdx
public import Idealize.ShloMosaic.Lib.ValueLayout
public import Idealize.ShloMosaic.Lib.ReduceAll
public import Idealize.ShloMosaic.Lib.IdealHost

@[expose] public section

set_option maxRecDepth 16384

noncomputable section

namespace Cert.ReferenceIdeal.Entry

open Cert.ReferenceIdeal Cert.ReferenceIdeal.Gen Idealize.ShloMosaic Idealize.ShloMosaic.TcCoe Idealize.ShloMosaic.ValueIdx
open scoped BigOperators

/-- The channel indices with a negative entry counted from the end. -/
def wrapped (idx : IVec S128 32) : IVec S128 32 :=
  select (cmpi .slt idx (broadcastInDim S128 ![] bcast_S_S128 (constantI S_ 32 0#32)))
    (addi idx (broadcastInDim S128 ![] bcast_S_S128 (constantI S_ 32 128#32))) idx

/-- The same as one column. -/
def column (idx : IVec S128 32) : IVec S128x1 32 := broadcastInDim S128x1 ![0] bcast_S128_S128x1_0 (wrapped idx)

/-- Whether each entry is between 0 and 127. -/
def inside (idx : IVec S128 32) : IVec S128 1 :=
  Host.reduce IntOp.andi
    (andi (cmpi .sge (column idx) (broadcastInDim S128x1 ![] bcast_S_S128x1 (constantI S_ 32 0#32)))
      (cmpi .sle (column idx) (broadcastInDim S128x1 ![0, 1] bcast_S1x1_S128x1_0_1 (broadcastInDim S1x1 ![1] bcast_S1_S1x1_1 (constantI S1 32 127#32)))))
    (constantI S_ 1 1#1) reducesTo_S128x1_S128_d1 h_S_

/-- The input's channels picked by the indices, not a number where an index is out of range. -/
def picked (x : FVec Ideal S8x128x128x128 .f32) (idx : IVec S128 32) : FVec Ideal S8x128x128x128 .f32 :=
  select (broadcastInDim S8x128x128x128 ![1] bcast_S128_S8x128x128x128_1 (inside idx))
    (Host.gather gather_S8x128x128x128_S128x1_S8x128x128x128_023_1_n_n_1_1_81128128 x (column idx))
    (broadcastInDim S8x128x128x128 ![] bcast_S_S8x128x128x128 (constant S_ .f32 0x7FC00000#32))

/-- The reference: the picked channels times the weights, with the filter axis moved to the second place. -/
def result (x : FVec Ideal S8x128x128x128 .f32) (w : FVec Ideal S32x128x1x1 .f32) (idx : IVec S128 32) : FVec Ideal S8x32x128x128 .f32 :=
  transpose S8x32x128x128 [0, 3, 1, 2]
    (Host.dotGeneral (φ₁ := .f32) (φ₂ := .f32) dot_S8x128x128x128_S32x128_S8x128x128x32_1_1_023_0_n_n none (picked x idx)
      (shapeCast S32x128 w shapeCasts_S32x128x1x1_S32x128))
    transposes_S8x128x128x32_S8x32x128x128_0_3_1_2

/-- A channel's number is not negative. -/
theorem not_negative : ∀ n : Fin 128, IntOp.cmpi .slt (BitVec.ofNat 32 n.val) 0#32 = 0#1 := by decide +kernel

/-- A channel's number is between 0 and 127. -/
theorem between : ∀ n : Fin 128, IntOp.andi (IntOp.cmpi .sge (BitVec.ofNat 32 n.val) 0#32) (IntOp.cmpi .sle (BitVec.ofNat 32 n.val) 127#32) = 1#1 := by
  decide +kernel

/-- A channel's number read back, kept between 0 and 127. -/
theorem read_back : ∀ n : Fin 128, min (BitVec.ofNat 32 n.val).toInt.toNat (128 - 1) = n.val := by decide +kernel

/-- The gather takes every axis but the channels whole. -/
theorem whole_axes : ∀ a : Fin 4, a ≠ 1 →
    a ∉ gather_S8x128x128x128_S128x1_S8x128x128x128_023_1_n_n_1_1_81128128.startIndexMap
      ∧ a ∈ gather_S8x128x128x128_S128x1_S8x128x128x128_023_1_n_n_1_1_81128128.sKept := by decide

variable (idx : IVec S128 32) (n : Fin 128 → Fin 128) (hn : ∀ k, idx (ix1 k) = BitVec.ofNat 32 (n k).val)
include hn

/-- Entry `k` of the wrapped indices is the channel it names. -/
theorem wrapped_apply (k : Fin 128) : wrapped idx (ix1 k) = BitVec.ofNat 32 (n k).val := by
  have e : cmpi .slt idx (broadcastInDim S128 ![] bcast_S_S128 (constantI S_ 32 0#32)) (ix1 k) = 0#1 := by
    show IntOp.cmpi .slt (idx (ix1 k)) 0#32 = 0#1
    rw [hn, not_negative]
  unfold wrapped
  rw [select_apply, e, select_zero, hn]

/-- So is row `k` of the column. -/
theorem column_apply (k : Fin 128) (u : Fin 1) : column idx (ix2 k u) = BitVec.ofNat 32 (n k).val :=
  (broadcastInDim_apply _ _ _ (ix2 k u) (ix1 k) fun a => by
    match a with
    | ⟨0, _⟩ => rfl).trans (wrapped_apply idx n hn k)

/-- Every entry is in range. -/
theorem inside_apply (k : Fin 128) : inside idx (ix1 k) = 1#1 := by
  unfold inside
  refine Host.reduce_andi_one _ _ _ _ _ rfl fun i => ?_
  obtain ⟨r, u, rfl⟩ : ∃ r u, i = ix2 r u := ⟨_, _, eq_ix2 i⟩
  show IntOp.andi (IntOp.cmpi .sge (column idx (ix2 r u)) 0#32) (IntOp.cmpi .sle (column idx (ix2 r u)) 127#32) = 1#1
  rw [column_apply idx n hn, between]

/-- The gather reads the channel that entry `k` names. -/
theorem gathered_apply (x : FVec Ideal S8x128x128x128 .f32) (b : Fin 8) (k h w : Fin 128) :
    Host.gather gather_S8x128x128x128_S128x1_S8x128x128x128_023_1_n_n_1_1_81128128 x (column idx) (ix4 b k h w) = x (ix4 b (n k) h w) := by
  unfold Host.gather
  refine congrArg x (funext fun a => Fin.ext ?_)
  show GatherDims.start gather_S8x128x128x128_S128x1_S8x128x128x128_023_1_n_n_1_1_81128128 (ix4 b k h w) (column idx) a
    + GatherDims.batchCoord gather_S8x128x128x128_S128x1_S8x128x128x128_023_1_n_n_1_1_81128128 (ix4 b k h w) a
    + GatherDims.offCoord gather_S8x128x128x128_S128x1_S8x128x128x128_023_1_n_n_1_1_81128128 (ix4 b k h w) a = _
  rw [GatherDims.batchCoord_eq_zero _ _ _ List.not_mem_nil, Nat.add_zero]
  unfold GatherDims.start GatherDims.offCoord
  by_cases ha : a = 1
  · subst ha
    rw [dif_pos (by decide), dif_neg (by decide), Nat.add_zero]
    refine Eq.trans ?_ (read_back (n k))
    refine congrArg (fun z : BitVec 32 => min z.toInt.toNat (128 - 1)) ?_
    refine Eq.trans (congrArg (column idx) (funext fun q => Fin.ext ?_)) (column_apply idx n hn k 0)
    match q with
    | ⟨0, _⟩ => rfl
    | ⟨1, _⟩ => rfl
  · rw [dif_neg (whole_axes a ha).1, dif_pos (whole_axes a ha).2, Nat.zero_add]
    match a with
    | ⟨0, _⟩ => rfl
    | ⟨1, _⟩ => exact absurd rfl ha
    | ⟨2, _⟩ => rfl
    | ⟨3, _⟩ => rfl

/-- The picked input at position `k` is the channel that entry `k` names. -/
theorem picked_apply (x : FVec Ideal S8x128x128x128 .f32) (b : Fin 8) (k h w : Fin 128) :
    picked x idx (ix4 b k h w) = x (ix4 b (n k) h w) := by
  have e : broadcastInDim S8x128x128x128 ![1] bcast_S128_S8x128x128x128_1 (inside idx) (ix4 b k h w) = 1#1 :=
    (broadcastInDim_apply _ _ _ (ix4 b k h w) (ix1 k) fun a => by
      match a with
      | ⟨0, _⟩ => rfl).trans (inside_apply idx n hn k)
  unfold picked
  rw [select_apply, e, select_one, gathered_apply idx n hn]

omit hn in
/-- The reference's product at an index: the sum over the positions. -/
theorem product_apply (L : FVec Ideal S8x128x128x128 .f32) (R : FVec Ideal S32x128 .f32) (b : Fin 8) (h w : Fin 128) (f : Fin 32) :
    Host.dotGeneral (φ₁ := .f32) (φ₂ := .f32) dot_S8x128x128x128_S32x128_S8x128x128x32_1_1_023_0_n_n none L R (ix4 b h w f)
      = ∑ k : Fin 128, L (ix4 b k h w) * R (ix2 f k) := by
  show FloatOps.dotGeneral _ none _ L R (ix4 b h w f) = _
  rw [Ideal.dotGeneral_apply, ← Equiv.sum_comp (contrEquiv1 dot_S8x128x128x128_S32x128_S8x128x128x32_1_1_023_0_n_n 128 rfl rfl).symm]
  refine Finset.sum_congr rfl fun k _ => ?_
  have hk := contrEquiv1_symm_val dot_S8x128x128x128_S32x128_S8x128x128x32_1_1_023_0_n_n 128 rfl rfl k
  have el : dot_S8x128x128x128_S32x128_S8x128x128x32_1_1_023_0_n_n.lhsIdx (ix4 b h w f)
      ((contrEquiv1 dot_S8x128x128x128_S32x128_S8x128x128x32_1_1_023_0_n_n 128 rfl rfl).symm k) = ix4 b k h w := by
    funext a; apply Fin.ext
    match a with
    | ⟨0, _⟩ => rfl
    | ⟨1, _⟩ => exact hk
    | ⟨2, _⟩ => rfl
    | ⟨3, _⟩ => rfl
  have er : dot_S8x128x128x128_S32x128_S8x128x128x32_1_1_023_0_n_n.rhsIdx (ix4 b h w f)
      ((contrEquiv1 dot_S8x128x128x128_S32x128_S8x128x128x32_1_1_023_0_n_n 128 rfl rfl).symm k) = ix2 f k := by
    funext a; apply Fin.ext
    match a with
    | ⟨0, _⟩ => rfl
    | ⟨1, _⟩ => exact hk
  rw [el, er]

omit hn in
/-- The weights as a matrix: entry `(f, k)`. -/
theorem matrix_apply (w : FVec Ideal S32x128x1x1 .f32) (f : Fin 32) (k : Fin 128) :
    shapeCast S32x128 w shapeCasts_S32x128x1x1_S32x128 (ix2 f k) = w (ix4 f k (0 : Fin 1) (0 : Fin 1)) :=
  shapeCast_apply w _ _ _ (by
    rw [Shape.rowMajor_val_four, Shape.rowMajor_val_two]
    show ((f.val * 128 + k.val) * 1 + 0) * 1 + 0 = f.val * 128 + k.val
    omega)

/-- The reference at batch element `b`, filter `f`, image row `h` and column `v`: the sum over the positions of the
    named channel's input times the weight. -/
theorem result_apply (x : FVec Ideal S8x128x128x128 .f32) (w : FVec Ideal S32x128x1x1 .f32) (b : Fin 8) (f : Fin 32) (h v : Fin 128) :
    result x w idx (ix4 b f h v) = ∑ k : Fin 128, x (ix4 b (n k) h v) * w (ix4 f k (0 : Fin 1) (0 : Fin 1)) := by
  unfold result
  refine (transpose_apply _ _ _ (ix4 b f h v) (ix4 b h v f) fun a => ?_).trans ?_
  · match a with
    | ⟨0, _⟩ => rfl
    | ⟨1, _⟩ => rfl
    | ⟨2, _⟩ => rfl
    | ⟨3, _⟩ => rfl
  rw [product_apply]
  exact Finset.sum_congr rfl fun k _ => by rw [picked_apply idx n hn, matrix_apply]

end Cert.ReferenceIdeal.Entry

end
-- ==== Proof.Pre.lean ====
/-
  What the precondition says: every entry of the channel indices names a channel, and either no channel is named twice
  or the input and the weights are finite.
-/
module

public import proofs.«01_k».proof.Pre_channels_valid
public import Idealize.ShloMosaic.PureOps.Ideal.Laws
public import Idealize.ShloMosaic.Lib.Pipeline.Value
public import Idealize.ShloMosaic.Lib.ValueIdx
public import Idealize.ShloMosaic.Lib.Affine
public import Idealize.ShloMosaic.Lib.ReduceAll

@[expose] public section

set_option maxRecDepth 16384

noncomputable section

namespace Cert.Pre_channels_valid

open Idealize.ShloMosaic Idealize.ShloMosaic.ValueIdx

/-- The shapes the precondition's operations relate do relate. -/
instance facts : Facts where
  bcast_S_S128 := by decide
  bcast_S128_S128x128_0 := by decide
  bcast_S128_S128x128_1 := by decide
  reducesTo_S128x128_S_d0_1 := by decide
  h_S_ := by decide
  bcast_S_S8x128x128x128 := by decide
  reducesTo_S8x128x128x128_S_d0_1_2_3 := by decide
  bcast_S_S32x128x1x1 := by decide
  reducesTo_S32x128x1x1_S_d0_1_2_3 := by decide

/-- The array without axes has one index. -/
instance : Subsingleton S_.Idx := ⟨fun a b => funext fun i => i.elim0⟩

/-- An extended real is finite. -/
def Finite (x : EReal) : Prop := x ≠ ⊤ ∧ x ≠ ⊥

/-- An absolute value below infinity is that of a finite number. -/
theorem finite_of_abs {s : Shape} (x : FVec Ideal s .f32) (i : s.Idx)
    (h : FloatOps.cmpf .olt (Host.absf x i) (Ideal.ofBits .f32 0x7F800000#32) = 1#1) : Finite (x i) := by
  have top : Ideal.ofBits .f32 0x7F800000#32 = ⊤ := by simp [Ideal.ofBits, Ideal.ieee]
  rw [top] at h
  have hlt : max (x i : EReal) (-(x i)) < ⊤ := by
    by_contra hc
    have : Ideal.cmp .olt (max (x i : EReal) (-(x i))) ⊤ = 1#1 := h
    simp [Ideal.cmp, hc] at this
  refine ⟨fun e => ?_, fun e => ?_⟩
  · rw [e] at hlt; simp at hlt
  · rw [e] at hlt; simp at hlt

/-- A word between 0 and 127 is the number of a channel. -/
theorem channel_of_range (z : BitVec 32) (h0 : (0#32).toInt ≤ z.toInt) (h1 : z.toInt < (128#32).toInt) :
    ∃ n : Fin 128, z = BitVec.ofNat 32 n.val := by
  have e0 : (0#32).toInt = 0 := by decide
  have e1 : (128#32).toInt = 128 := by decide
  rw [e0] at h0
  rw [e1] at h1
  have ht : z.toNat < 128 := by
    rw [BitVec.toInt_eq_toNat_cond] at h0 h1
    have := z.isLt
    split at h0 <;> split at h1 <;> omega
  exact ⟨⟨z.toNat, ht⟩, by simp⟩

/-- A vector spread over a square along the first axis, read: the vector at the row. -/
theorem spread_rows (v : IVec S128 32) (h : S128.BroadcastsInDim S128x128 ![0]) (k l : Fin 128) :
    broadcastInDim S128x128 ![0] h v (ix2 k l) = v (ix1 k) :=
  broadcastInDim_apply _ _ _ _ _ (by intro a; match a with | ⟨0, _⟩ => rfl)

/-- A vector spread over a square along the second axis, read: the vector at the column. -/
theorem spread_columns (v : IVec S128 32) (h : S128.BroadcastsInDim S128x128 ![1]) (k l : Fin 128) :
    broadcastInDim S128x128 ![1] h v (ix2 k l) = v (ix1 l) :=
  broadcastInDim_apply _ _ _ _ _ (by intro a; match a with | ⟨0, _⟩ => rfl)

variable (x : FVec Ideal S8x128x128x128 .f32) (w : FVec Ideal S32x128x1x1 .f32) (idx : IVec S128 32)

/-- The precondition, read: a channel for every position, the channels distinct or the floats finite. -/
theorem holds (h : fn (F := Ideal) x w idx = fun _ => 1#1) :
    ∃ n : Fin 128 → Fin 128, (∀ k, idx (ix1 k) = BitVec.ofNat 32 (n k).val)
      ∧ (Function.Injective n ∨ ((∀ i, Finite (x i)) ∧ ∀ i, Finite (w i))) := by
  have at_ := fun k : Fin 128 => congrFun h (ix1 k)
  have parts := fun k => IntOp.andi_eq_one.mp (at_ k)
  have named : ∀ k : Fin 128, ∃ n : Fin 128, idx (ix1 k) = BitVec.ofNat 32 n.val := fun k => by
    obtain ⟨h0, h1⟩ := IntOp.andi_eq_one.mp (parts k).1
    exact channel_of_range _ (IntOp.cmpi_sge.mp h0) (IntOp.cmpi_slt.mp h1)
  choose n hn using named
  refine ⟨n, hn, ?_⟩
  rcases IntOp.ori_eq_one.mp (parts 0).2 with hd | hf
  · refine Or.inl fun k l hkl => ?_
    have e := Host.reduce_andi_all _ _ _ _ _ hd (ix2 k l)
    rcases IntOp.ori_eq_one.mp e with hne | heq
    · have := IntOp.cmpi_ne.mp hne
      rw [spread_rows, spread_columns, hn, hn, hkl] at this
      exact absurd rfl this
    · have : BitVec.ofNat 32 k.val = BitVec.ofNat 32 l.val := IntOp.cmpi_eq.mp heq
      have e := congrArg BitVec.toNat this
      rw [BitVec.toNat_ofNat, BitVec.toNat_ofNat] at e
      exact Fin.ext (by omega)
  · obtain ⟨hx, hw⟩ := IntOp.andi_eq_one.mp hf
    exact Or.inr ⟨fun i => finite_of_abs x i (Host.reduce_andi_all _ _ _ _ _ hx i),
      fun i => finite_of_abs w i (Host.reduce_andi_all _ _ _ _ _ hw i)⟩

end Cert.Pre_channels_valid

end
-- ==== Proof.Equation.lean ====
/-
  The equation: gathering the weights by channel and multiplying by the input is multiplying every weight by the
  channel its position names.
-/
module

public import proofs.«01_k».proof.Proof.Array
public import proofs.«01_k».proof.Proof.Reference
public import proofs.«01_k».proof.Proof.Pre

@[expose] public section

set_option maxRecDepth 16384

noncomputable section

namespace Cert.Equation

open Idealize.ShloMosaic Idealize.ShloMosaic.TcCoe Idealize.ShloMosaic.ValueIdx
open Cert.Pre_channels_valid (Finite)
open scoped BigOperators

/-- A finite extended real is a real number. -/
theorem real_of_finite {x : EReal} (h : Finite x) : ∃ r : ℝ, (r : EReal) = x := ⟨x.toReal, EReal.coe_toReal h.1 h.2⟩

/-- A sum of real numbers taken among the extended reals is their sum among the reals. -/
theorem real_sum {ι : Type} (s : Finset ι) (r : ι → ℝ) : ∑ k ∈ s, (r k : EReal) = ((∑ k ∈ s, r k : ℝ) : EReal) :=
  (map_sum (⟨⟨Real.toEReal, EReal.coe_zero⟩, EReal.coe_add⟩ : ℝ →+ EReal) r s).symm

section
variable {ι : Type} [Fintype ι] [DecidableEq ι] (n : ι → ι)

/-- A factor taken into a sum that at most one position enters. -/
theorem gather_of_distinct (hn : Function.Injective n) (w : ι → EReal) (y : EReal) (c : ι) :
    (∑ k, w k * (if n k = c then 1 else 0)) * y = ∑ k, w k * (if n k = c then 1 else 0) * y := by
  by_cases h : ∃ k, n k = c
  · obtain ⟨k, rfl⟩ := h
    have none_else : ∀ l, l ≠ k → w l * (if n l = n k then (1 : EReal) else 0) = 0 := fun l hl => by
      rw [if_neg fun e => hl (hn e), mul_zero]
    rw [Finset.sum_eq_single k (fun l _ hl => none_else l hl) (fun h => absurd (Finset.mem_univ k) h),
      Finset.sum_eq_single k (fun l _ hl => by rw [none_else l hl, zero_mul]) (fun h => absurd (Finset.mem_univ k) h)]
  · have none : ∀ k, w k * (if n k = c then (1 : EReal) else 0) = 0 := fun k => by
      rw [if_neg fun e => h ⟨k, e⟩, mul_zero]
    rw [Finset.sum_eq_zero fun k _ => none k, Finset.sum_eq_zero fun k _ => by rw [none k, zero_mul], zero_mul]

/-- A finite factor taken into a sum of finite terms. -/
theorem gather_of_finite (w : ι → EReal) (hw : ∀ k, Finite (w k)) (y : EReal) (hy : Finite y) (c : ι) :
    (∑ k, w k * (if n k = c then 1 else 0)) * y = ∑ k, w k * (if n k = c then 1 else 0) * y := by
  choose v hv using fun k => real_of_finite (hw k)
  obtain ⟨z, rfl⟩ := real_of_finite hy
  have term : ∀ k, w k * (if n k = c then 1 else 0) = ((v k * (if n k = c then 1 else 0) : ℝ) : EReal) := fun k => by
    rw [← hv k, EReal.coe_mul]
    split <;> simp
  simp only [term, ← EReal.coe_mul, real_sum, Finset.sum_mul]

/-- Summing over the channels the gathered weight times the input is summing over the positions the named channel's
    input times the weight. -/
theorem sum_gathered (w y : ι → EReal) (h : Function.Injective n ∨ ((∀ c, Finite (y c)) ∧ ∀ k, Finite (w k))) :
    ∑ c, (∑ k, w k * (if n k = c then 1 else 0)) * y c = ∑ k, y (n k) * w k := by
  have inner : ∀ c, (∑ k, w k * (if n k = c then 1 else 0)) * y c = ∑ k, w k * (if n k = c then 1 else 0) * y c := fun c => by
    rcases h with hn | ⟨hy, hw⟩
    · exact gather_of_distinct n hn w (y c) c
    · exact gather_of_finite n w hw (y c) (hy c) c
  rw [Finset.sum_congr rfl fun c _ => inner c, Finset.sum_comm]
  refine Finset.sum_congr rfl fun k _ => ?_
  rw [Finset.sum_eq_single (n k) (fun c _ hc => by rw [if_neg hc.symm, mul_zero, zero_mul])
    (fun h => absurd (Finset.mem_univ _) h), if_pos rfl, mul_one, mul_comm]

end

open Cert.KernelIdeal Cert.KernelIdeal.Gen

variable (m : (ℓ : Loc nD τ sig) → Buf (Elt Ideal) ℓ) (c : Dev nD)

/-- Entry `k` of the row of channel indices is entry `k` of the argument. -/
theorem indices_apply (k : Fin 128) :
    Array.indices m c (ix2 (0 : Fin 1) k) = m ((c : Thread nD τ).loc main_arg2) (ix1 k) :=
  shapeCast_a_1a_apply _ shapeCasts_S128_S1x128 0 k

/-- The weight matrix at `(f, k)` is the argument at filter `f` and position `k`. -/
theorem weights_apply (f : Fin 32) (k : Fin 128) :
    Array.weights m c (ix2 f k) = m ((c : Thread nD τ).loc main_arg1) (ix4 f k (0 : Fin 1) (0 : Fin 1)) :=
  Cert.ReferenceIdeal.Entry.matrix_apply (m ((c : Thread nD τ).loc main_arg1)) f k

/-- The weight filter `f` gives position `k`. -/
def weight (f : Fin 32) (k : Fin 128) : EReal := m ((c : Thread nD τ).loc main_arg1) (ix4 f k (0 : Fin 1) (0 : Fin 1))

/-- Two channels with the same number are the same. -/
theorem same_channel (a b : Fin 128) : BitVec.ofNat 32 a.val = BitVec.ofNat 32 b.val ↔ a = b := by
  refine ⟨fun h => ?_, fun h => by rw [h]⟩
  have e := congrArg BitVec.toNat h
  rw [BitVec.toNat_ofNat, BitVec.toNat_ofNat] at e
  exact Fin.ext (by omega)

/-- The kernel's result array is the reference of the same arguments. -/
theorem results_agree (hpre : Cert.Pre_channels_valid.fn (F := Ideal) (m ((c : Thread nD τ).loc main_arg0))
      (m ((c : Thread nD τ).loc main_arg1)) (m ((c : Thread nD τ).loc main_arg2)) = fun _ => 1#1) :
    Cert.ReferenceIdeal.Entry.result (m ((c : Thread nD τ).loc main_arg0)) (m ((c : Thread nD τ).loc main_arg1))
      (m ((c : Thread nD τ).loc main_arg2)) = Value.G3 m c := by
  obtain ⟨n, hn, hcase⟩ := Cert.Pre_channels_valid.holds _ _ _ hpre
  funext i
  obtain ⟨b, f, h, v, rfl⟩ : ∃ b f h v, i = ix4 b f h v := ⟨_, _, _, _, eq_ix4 i⟩
  rw [Cert.ReferenceIdeal.Entry.result_apply _ n hn, Array.result_apply]
  have hk : ∀ k, Weights.byChannel (Array.indices m c) (Array.weights m c) f k
      = ∑ l : Fin 128, weight m c f l * (if n l = k then (1 : EReal) else 0) := fun k => by
    unfold Weights.byChannel Weights.hit
    refine Finset.sum_congr (M := EReal) rfl fun l _ => ?_
    rw [indices_apply, weights_apply, hn]
    simp only [same_channel, weight]
  refine Eq.symm ((Finset.sum_congr (M := EReal) rfl fun k _ => by rw [hk k]).trans
    (sum_gathered n (weight m c f) (fun k => m ((c : Thread nD τ).loc main_arg0) (ix4 b k h v)) ?_))
  exact hcase.imp id fun hf => ⟨fun k => hf.1 _, fun l => hf.2 _⟩

end Cert.Equation

end
-- ==== Proof.lean ====
/-
  The proof of the claim: every program runs and leaves its arguments and its counters as they were, and the kernel's
  result is the reference's, read over the extended reals.
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Equation
public import Idealize.ShloMosaic.Adequacy
public import Idealize.ShloMosaic.Init
public import Idealize.ShloMosaic.Lib.Quiescent

@[expose] public section

noncomputable section

namespace Cert.Proof

open Idealize.ShloMosaic Idealize.SL.Sem

/-- The reference runs, its arguments unchanged and its counters zero. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On arguments that satisfy the precondition the kernel and the reference end with the same result array. -/
theorem algebraic_KernelIdeal_ReferenceIdeal : algebraic_KernelIdeal_ReferenceIdeal_pre_channels_valid := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  exact Cert.Equation.results_agree m c (hpre c)

/-- Everything claimed. -/
theorem claim : Cert.Claim := ⟨Cert.Kernel.Gen.facts, Cert.KernelIdeal.Gen.facts, Cert.ReferenceIdeal.Gen.facts,
  Cert.Pre_channels_valid.facts,
  fun m ρ _ => Cert.Kernel.Gen.frame m ρ,
  fun m ρ _ => Cert.KernelIdeal.Gen.frame m ρ,
  fun m ρ _ => Cert.KernelIdeal.Gen.frame m ρ,
  quiescent_ReferenceIdeal,
  fun m ρ _ => quiescent_ReferenceIdeal m ρ trivial,
  (trivial : preserves_Kernel_KernelIdeal),
  algebraic_KernelIdeal_ReferenceIdeal⟩

end Cert.Proof

end
